-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2x768 : Shape := ⟨3, ![128, 2, 768]⟩
abbrev S2x768x32768 : Shape := ⟨3, ![2, 768, 32768]⟩
abbrev S32768 : Shape := ⟨1, ![32768]⟩
abbrev S2x32768x768 : Shape := ⟨3, ![2, 32768, 768]⟩
abbrev S2x768 : Shape := ⟨2, ![2, 768]⟩
abbrev S128x1536 : Shape := ⟨2, ![128, 1536]⟩
abbrev S1536x32768 : Shape := ⟨2, ![1536, 32768]⟩
abbrev S1x32768 : Shape := ⟨2, ![1, 32768]⟩
abbrev S128x768 : Shape := ⟨2, ![128, 768]⟩
abbrev S128x1x768 : Shape := ⟨3, ![128, 1, 768]⟩
abbrev S1536x1024 : Shape := ⟨2, ![1536, 1024]⟩
abbrev S1x1024 : Shape := ⟨2, ![1, 1024]⟩
abbrev S2x1024x768 : Shape := ⟨3, ![2, 1024, 768]⟩
abbrev S128x1024 : Shape := ⟨2, ![128, 1024]⟩
abbrev S1x1024x768 : Shape := ⟨3, ![1, 1024, 768]⟩
abbrev S1024x768 : Shape := ⟨2, ![1024, 768]⟩
abbrev S1x768 : Shape := ⟨2, ![1, 768]⟩
abbrev S768 : Shape := ⟨1, ![768]⟩

abbrev nBuf : Space → Nat
  | .hbm => 13
  | .vmem => 10
  | .smem => 0
  | _ => 0

abbrev bufTy : (tb : Table) → Fin (tcTables nBuf tb) → BufTy
  | .hbm, ⟨0, _⟩ => ⟨S128x2x768, .f32⟩
  | .hbm, ⟨1, _⟩ => ⟨S2x768x32768, .f32⟩
  | .hbm, ⟨2, _⟩ => ⟨S32768, .f32⟩
  | .hbm, ⟨3, _⟩ => ⟨S2x32768x768, .f32⟩
  | .hbm, ⟨4, _⟩ => ⟨S2x768, .f32⟩
  | .hbm, ⟨5, _⟩ => ⟨S128x1536, .f32⟩
  | .hbm, ⟨6, _⟩ => ⟨S1536x32768, .f32⟩
  | .hbm, ⟨7, _⟩ => ⟨S1x32768, .f32⟩
  | .hbm, ⟨8, _⟩ => ⟨S128x768, .f32⟩
  | .hbm, ⟨9, _⟩ => ⟨S128x768, .f32⟩
  | .hbm, ⟨10, _⟩ => ⟨S128x1x768, .f32⟩
  | .hbm, ⟨11, _⟩ => ⟨S128x1x768, .f32⟩
  | .hbm, ⟨12, _⟩ => ⟨S128x2x768, .f32⟩
  | .local _ .vmem, ⟨0, _⟩ => ⟨S128x1536, .f32⟩
  | .local _ .vmem, ⟨1, _⟩ => ⟨S1536x1024, .f32⟩
  | .local _ .vmem, ⟨2, _⟩ => ⟨S1536x1024, .f32⟩
  | .local _ .vmem, ⟨3, _⟩ => ⟨S1x1024, .f32⟩
  | .local _ .vmem, ⟨4, _⟩ => ⟨S1x1024, .f32⟩
  | .local _ .vmem, ⟨5, _⟩ => ⟨S2x1024x768, .f32⟩
  | .local _ .vmem, ⟨6, _⟩ => ⟨S2x1024x768, .f32⟩
  | .local _ .vmem, ⟨7, _⟩ => ⟨S2x768, .f32⟩
  | .local _ .vmem, ⟨8, _⟩ => ⟨S128x768, .f32⟩
  | .local _ .vmem, ⟨9, _⟩ => ⟨S128x768, .f32⟩
  | _, _ => ⟨S128x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg0 : BitVec 32 := BitVec.ofNat 32 (i 0).val
  let c0_i32_14 : BitVec 32 := 0#32
  let v25 : BitVec 1 := Scalar.cmpi .ne arg0 c0_i32_14
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S128x2x768 : Shape := ⟨3, ![128, 2, 768]⟩
abbrev S2x768x32768 : Shape := ⟨3, ![2, 768, 32768]⟩
abbrev S32768 : Shape := ⟨1, ![32768]⟩
abbrev S2x32768x768 : Shape := ⟨3, ![2, 32768, 768]⟩
abbrev S2x768 : Shape := ⟨2, ![2, 768]⟩
abbrev S2x32768x128 : Shape := ⟨3, ![2, 32768, 128]⟩
abbrev S128x2x32768 : Shape := ⟨3, ![128, 2, 32768]⟩
abbrev S_ : Shape := ⟨0, ![]⟩
abbrev S128x32768 : Shape := ⟨2, ![128, 32768]⟩
abbrev S1x32768 : Shape := ⟨2, ![1, 32768]⟩
abbrev S1x2x768 : Shape := ⟨3, ![1, 2, 768]⟩

abbrev nBuf : Space → Nat
  | .hbm => 19
  | .vmem => 0
  | .smem => 0
  | _ => 0

abbrev bufTy : (tb : Table) → Fin (tcTables nBuf tb) → BufTy
  | .hbm, ⟨0, _⟩ => ⟨S128x2x768, .f32⟩
  | .hbm, ⟨1, _⟩ => ⟨S2x768x32768, .f32⟩
  | .hbm, ⟨2, _⟩ => ⟨S32768, .f32⟩
  | .hbm, ⟨3, _⟩ => ⟨S2x32768x768, .f32⟩
  | .hbm, ⟨4, _⟩ => ⟨S2x768, .f32⟩
  | .hbm, ⟨5, _⟩ => ⟨S2x32768x128, .f32⟩
  | .hbm, ⟨6, _⟩ => ⟨S128x2x32768, .f32⟩
  | .hbm, ⟨7, _⟩ => ⟨S_, .f32⟩
  | .hbm, ⟨8, _⟩ => ⟨S128x32768, .f32⟩
  | .hbm, ⟨9, _⟩ => ⟨S1x32768, .f32⟩
  | .hbm, ⟨10, _⟩ => ⟨S128x32768, .f32⟩
  | .hbm, ⟨11, _⟩ => ⟨S128x32768, .f32⟩
  | .hbm, ⟨12, _⟩ => ⟨S_, .f32⟩
  | .hbm, ⟨13, _⟩ => ⟨S128x32768, .f32⟩
  | .hbm, ⟨14, _⟩ => ⟨S128x32768, .f32⟩
  | .hbm, ⟨15, _⟩ => ⟨S128x2x768, .f32⟩
  | .hbm, ⟨16, _⟩ => ⟨S1x2x768, .f32⟩
  | .hbm, ⟨17, _⟩ => ⟨S128x2x768, .f32⟩
  | .hbm, ⟨18, _⟩ => ⟨S128x2x768, .f32⟩
  | _, _ => ⟨S128x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Block.lean ====
/- What one grid point leaves in the two output blocks. At the first point each output block is the decoder product of
   that point plus the layer's bias row; at a later point it is what the block held before plus the decoder product of
   that point. The decoder product and the features it multiplies are the named pure terms of the printed body
   (`k0_pay4` … `k0_pay7`); this module only identifies which blocks they are applied to. -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Block

open Cert.KernelIdeal Cert.KernelIdeal.Gen

variable {F : FTy → Type} [FloatOps F]

/-- The origin of a two-axis block, as a literal vector. -/
theorem origin2 : (![0, 0] : Fin 2 → Nat) = fun _ => 0 := funext fun a => by fin_cases a <;> rfl

/-- The decoder block of layer 0: the first of the two planes of the `[2, 1024, 768]` block. -/
abbrev plane0 (w : Vec F S2x1024x768 .f32) : Vec F S1x1024x768 .f32 :=
  View.ld w (Rect.unit (s := S2x1024x768) ![0, 0, 0] S1x1024x768.size inb_S2x1024x768_S1x1024x768_0_0_0)

/-- The decoder block of layer 1: the second plane. -/
abbrev plane1 (w : Vec F S2x1024x768 .f32) : Vec F S1x1024x768 .f32 :=
  View.ld w (Rect.unit (s := S2x1024x768) ![1, 0, 0] S1x1024x768.size inb_S2x1024x768_S1x1024x768_1_0_0)

/-- The bias row of layer 0. -/
abbrev row0 (b : Vec F S2x768 .f32) : Vec F S1x768 .f32 :=
  View.ld b (Rect.unit (s := S2x768) ![0, 0] S1x768.size inb_S2x768_S1x768_0_0)

/-- The bias row of layer 1. -/
abbrev row1 (b : Vec F S2x768 .f32) : Vec F S1x768 .f32 :=
  View.ld b (Rect.unit (s := S2x768) ![1, 0] S1x768.size inb_S2x768_S1x768_1_0)

section

variable (c : Dev nD) (i : grid0.Coords)
  (a1 : Memref sig .tc .vmem S128x1536 .f32) (h1 : a1.IsWhole) (a2 : Memref sig .tc .vmem S1536x1024 .f32) (h2 : a2.IsWhole)
  (a3 : Memref sig .tc .vmem S1x1024 .f32) (h3 : a3.IsWhole) (a4 : Memref sig .tc .vmem S2x1024x768 .f32) (h4 : a4.IsWhole)
  (a5 : Memref sig .tc .vmem S2x768 .f32) (h5 : a5.IsWhole) (a6 : Memref sig .tc .vmem S128x768 .f32) (h6 : a6.IsWhole)
  (a7 : Memref sig .tc .vmem S128x768 .f32) (h7 : a7.IsWhole)
  (x : Vec F S128x1536 .f32) (we : Vec F S1536x1024 .f32) (be : Vec F S1x1024 .f32) (wd : Vec F S2x1024x768 .f32)
  (bd : Vec F S2x768 .f32) (o0 o1 : Vec F S128x768 .f32)

/-- At the first point, layer 0's block is the decoder product plus the bias row. -/
theorem first0 (hc0 : cond0_0 i) (hc1 : ¬cond0_1 i) :
    out0_A_5 c i a1 h1 a2 h2 a3 h3 a4 h4 a5 h5 a6 h6 a7 h7 hc0 hc1 x we be wd bd
      = k0_pay4 x we be (plane0 wd) (row0 bd) := by
  unfold out0_A_5
  rw [View.read_writes_eq_canon _ _ _ (cover0_A_5 c i a1 h1 a2 h2 a3 h3 a4 h4 a5 h5 a6 h6 a7 h7 hc0 hc1 x we be wd bd)]
  unfold kernelRun0_A
  dsimp only
  sl_unfold_words
  rw [View.canon_unit_zero origin2]
  simp only [View.readAt_eq_ld, h1.read_unread, h2.read_unread, h3.read_unread, h4.read_unread, h5.read_unread,
    View.ld_unit_zero (S := S128x1536) origin2, View.ld_unit_zero (S := S1536x1024) origin2,
    View.ld_unit_zero (S := S1x1024) origin2]

/-- At the first point, layer 1's block is the decoder product plus the bias row. -/
theorem first1 (hc0 : cond0_0 i) (hc1 : ¬cond0_1 i) :
    out0_A_6 c i a1 h1 a2 h2 a3 h3 a4 h4 a5 h5 a6 h6 a7 h7 hc0 hc1 x we be wd bd
      = k0_pay5 x we be (plane1 wd) (row1 bd) := by
  unfold out0_A_6
  rw [View.read_writes_eq_canon _ _ _ (cover0_A_6 c i a1 h1 a2 h2 a3 h3 a4 h4 a5 h5 a6 h6 a7 h7 hc0 hc1 x we be wd bd)]
  unfold kernelRun0_A
  dsimp only
  sl_unfold_words
  rw [View.canon_unit_zero origin2]
  simp only [View.readAt_eq_ld, h1.read_unread, h2.read_unread, h3.read_unread, h4.read_unread, h5.read_unread,
    View.ld_unit_zero (S := S128x1536) origin2, View.ld_unit_zero (S := S1536x1024) origin2,
    View.ld_unit_zero (S := S1x1024) origin2]

/-- At a later point, layer 0's block is what it held plus the decoder product. -/
theorem later0 (hc0 : ¬cond0_0 i) (hc1 : cond0_1 i) :
    out0_B_5 c i a1 h1 a2 h2 a3 h3 a4 h4 a5 h5 a6 h6 a7 h7 hc0 hc1 x we be wd bd o0 o1
      = k0_pay6 x we be (plane0 wd) o0 := by
  unfold out0_B_5
  rw [View.read_writes_eq_canon _ _ _
    (cover0_B_5 c i a1 h1 a2 h2 a3 h3 a4 h4 a5 h5 a6 h6 a7 h7 hc0 hc1 x we be wd bd o0 o1)]
  unfold kernelRun0_B
  dsimp only
  sl_unfold_words
  rw [View.canon_unit_zero origin2]
  simp only [View.readAt_eq_ld, h1.read_unread, h2.read_unread, h3.read_unread, h4.read_unread, h6.read_unread,
    View.ld_unit_zero (S := S128x1536) origin2, View.ld_unit_zero (S := S1536x1024) origin2,
    View.ld_unit_zero (S := S1x1024) origin2, View.ld_unit_zero (S := S128x768) origin2]

/-- At a later point, layer 1's block is what it held plus the decoder product. -/
theorem later1 (hc0 : ¬cond0_0 i) (hc1 : cond0_1 i) :
    out0_B_6 c i a1 h1 a2 h2 a3 h3 a4 h4 a5 h5 a6 h6 a7 h7 hc0 hc1 x we be wd bd o0 o1
      = k0_pay7 x we be (plane1 wd) o1 := by
  unfold out0_B_6
  rw [View.read_writes_eq_canon _ _ _
    (cover0_B_6 c i a1 h1 a2 h2 a3 h3 a4 h4 a5 h5 a6 h6 a7 h7 hc0 hc1 x we be wd bd o0 o1)]
  unfold kernelRun0_B
  dsimp only
  sl_unfold_words
  rw [View.canon_unit_zero origin2]
  simp only [View.readAt_eq_ld, h1.read_unread, h2.read_unread, h3.read_unread, h4.read_unread, h7.read_unread,
    View.ld_unit_zero (S := S128x1536) origin2, View.ld_unit_zero (S := S1536x1024) origin2,
    View.ld_unit_zero (S := S1x1024) origin2, View.ld_unit_zero (S := S128x768) origin2]

end

end Cert.KernelIdeal.Block

end
-- ==== Proof.Terms.lean ====
/- The body's pure terms read at one element, over the extended reals. The features of a block are
   `max (Σ_k x(b, k) · We(k, f) + be(f)) 0`; a layer's decoder product is `Σ_f feature(b, f) · Wd(f, d)`. -/
module

public import proofs.«01_k».proof.Proof.Block
public import Idealize.ShloMosaic.Lib.ValueIdx
public import Idealize.ShloMosaic.Lib.MatmulPlain
public import Idealize.ShloMosaic.PureOps.Ideal.Laws

@[expose] public section

noncomputable section

open Idealize.ShloMosaic Idealize.ShloMosaic.TcCoe Idealize.ShloMosaic.ValueIdx
open scoped BigOperators

namespace Cert.KernelIdeal.Terms

open Cert.KernelIdeal Cert.KernelIdeal.Gen Cert.KernelIdeal.Block

/-- The zero word is the extended real zero. -/
theorem zero_word : Ideal.ofBits .f32 0x00000000#32 = 0 := by simp

/-- One block's feature at batch row `b` and block column `f`. -/
def feature (x : Vec Ideal S128x1536 .f32) (we : Vec Ideal S1536x1024 .f32) (be : Vec Ideal S1x1024 .f32)
    (b : Fin 128) (f : Fin 1024) : EReal :=
  max ((∑ k : Fin 1536, x (ix2 b k) * we (ix2 k f)) + be (ix2 0 f)) 0

/-- The narrowed relu block of the body is the block's features. -/
theorem relu_apply (x : Vec Ideal S128x1536 .f32) (we : Vec Ideal S1536x1024 .f32) (be : Vec Ideal S1x1024 .f32)
    (b : Fin 128) (f : Fin 1024) : k0_pay1 x we be (ix2 b f) = feature x we be b f := by
  unfold k0_pay1 feature
  simp only [truncf_apply, maximumf_apply, addf_apply, broadcast_apply, shapeCast_self]
  rw [broadcastTo_apply be broadcasts_S1x1024_S128x1024 (ix2 b f) (ix2 0 f)
    (fun a => by match a with | ⟨0, _⟩ => rfl | ⟨1, _⟩ => rfl)]
  rw [show ∀ (l : FVec Ideal S128x1536 .bf16) (r : FVec Ideal S1536x1024 .bf16),
      matmul dot_S128x1536_S1536x1024_S128x1024_1_0_0_1_n_n none l r (constant S128x1024 .f32 0x00000000#32) (ix2 b f)
        = ∑ k : Fin 1536, l (ix2 b k) * r (ix2 k f) from fun l r =>
      (Ideal.matmul_plain_apply none l r (constant S128x1024 .f32 0x00000000#32) b f).trans
        (by rw [constant_apply, zero_word, zero_add])]
  show max _ (Ideal.ofBits .f32 0x00000000#32) = _
  rw [zero_word]
  rfl

/-- A layer's decoder product at batch row `b` and output column `d`, from its `[1, 1024, 768]` plane. -/
theorem product_apply (x : Vec Ideal S128x1536 .f32) (we : Vec Ideal S1536x1024 .f32) (be : Vec Ideal S1x1024 .f32)
    (w : Vec Ideal S1x1024x768 .f32) (b : Fin 128) (d : Fin 768) :
    k0_pay2 x we be w (ix2 b d) = ∑ f : Fin 1024, feature x we be b f * w (ix3 0 f d) := by
  unfold k0_pay2
  refine (Ideal.matmul_plain_apply none _ _ (constant S128x768 .f32 0x00000000#32) b d).trans ?_
  rw [constant_apply, zero_word, zero_add]
  refine Finset.sum_congr rfl fun f _ => ?_
  rw [relu_apply, truncf_apply]
  refine congrArg _ ((shapeCast_dropUnit_apply ![1024, 768] w _ (ix2 f d)).trans (congrArg w ?_))
  funext a
  match a with | ⟨0, _⟩ => rfl | ⟨1, _⟩ => rfl | ⟨2, _⟩ => rfl

/-- The two layers' products are one function of the plane. -/
theorem product_eq (x : Vec Ideal S128x1536 .f32) (we : Vec Ideal S1536x1024 .f32) (be : Vec Ideal S1x1024 .f32)
    (w : Vec Ideal S1x1024x768 .f32) : k0_pay3 x we be w = k0_pay2 x we be w := rfl

/-- The first point's stored term: the product plus the bias row. -/
theorem first_apply (x : Vec Ideal S128x1536 .f32) (we : Vec Ideal S1536x1024 .f32) (be : Vec Ideal S1x1024 .f32)
    (w : Vec Ideal S1x1024x768 .f32) (r : Vec Ideal S1x768 .f32) (b : Fin 128) (d : Fin 768) :
    k0_pay4 x we be w r (ix2 b d) = (∑ f : Fin 1024, feature x we be b f * w (ix3 0 f d)) + r (ix2 0 d) := by
  unfold k0_pay4
  rw [addf_apply, product_apply, shapeCast_shapeCast,
    broadcastTo_apply r broadcasts_S1x768_S128x768 (ix2 b d) (ix2 0 d)
      (fun a => by match a with | ⟨0, _⟩ => rfl | ⟨1, _⟩ => rfl)]

/-- A later point's stored term: what was there plus the product. -/
theorem later_apply (x : Vec Ideal S128x1536 .f32) (we : Vec Ideal S1536x1024 .f32) (be : Vec Ideal S1x1024 .f32)
    (w : Vec Ideal S1x1024x768 .f32) (o : Vec Ideal S128x768 .f32) (b : Fin 128) (d : Fin 768) :
    k0_pay6 x we be w o (ix2 b d) = o (ix2 b d) + ∑ f : Fin 1024, feature x we be b f * w (ix3 0 f d) := by
  unfold k0_pay6
  rw [addf_apply, product_apply, shapeCast_self]

end Cert.KernelIdeal.Terms

end
-- ==== Proof.Spec.lean ====
/- The crosscoder over the extended reals, written once, element by element: the features are
   `max (Σ_l Σ_h x(b, l, h) · We(l, h, f) + be(f)) 0`, the reconstruction is `bd(l, d) + Σ_f feature(b, f) · Wd(l, f, d)`.
   Both programs are read against this one function. Two general facts on finite sums are stated here as well: a sum over a
   product range is a double sum, and a sum over the first `n` naturals is one over `Fin n`. -/
module

public import Idealize.ShloMosaic.Lib.ValueIdx

@[expose] public section

noncomputable section

open Idealize.ShloMosaic Idealize.ShloMosaic.ValueIdx
open scoped BigOperators

namespace Cert.Spec

/-- The feature of batch row `b` in dictionary column `f`. -/
def act (x : (⟨3, ![128, 2, 768]⟩ : Shape).Idx → EReal) (we : (⟨3, ![2, 768, 32768]⟩ : Shape).Idx → EReal)
    (be : (⟨1, ![32768]⟩ : Shape).Idx → EReal) (b : Fin 128) (f : Fin 32768) : EReal :=
  max ((∑ l : Fin 2, ∑ h : Fin 768, x (ix3 b l h) * we (ix3 l h f)) + be (ix1 f)) 0

/-- What column `f` adds to the reconstruction of layer `l` at `(b, d)`; naturals past the dictionary add nothing. -/
def part (x : (⟨3, ![128, 2, 768]⟩ : Shape).Idx → EReal) (we : (⟨3, ![2, 768, 32768]⟩ : Shape).Idx → EReal)
    (be : (⟨1, ![32768]⟩ : Shape).Idx → EReal) (wd : (⟨3, ![2, 32768, 768]⟩ : Shape).Idx → EReal)
    (l : Fin 2) (b : Fin 128) (d : Fin 768) (f : ℕ) : EReal :=
  if h : f < 32768 then act x we be b ⟨f, h⟩ * wd (ix3 l ⟨f, h⟩ d) else 0

/-- The reconstruction after the first `n` dictionary columns: the bias plus what those columns add. -/
def upTo (x : (⟨3, ![128, 2, 768]⟩ : Shape).Idx → EReal) (we : (⟨3, ![2, 768, 32768]⟩ : Shape).Idx → EReal)
    (be : (⟨1, ![32768]⟩ : Shape).Idx → EReal) (wd : (⟨3, ![2, 32768, 768]⟩ : Shape).Idx → EReal)
    (bd : (⟨2, ![2, 768]⟩ : Shape).Idx → EReal) (n : ℕ) (l : Fin 2) (b : Fin 128) (d : Fin 768) : EReal :=
  bd (ix2 l d) + ∑ f ∈ Finset.range n, part x we be wd l b d f

/-- A sum over the first `n` naturals of a function given on `Fin n`, extended by zero. -/
theorem sum_extend {M : Type*} [AddCommMonoid M] (n : ℕ) (g : Fin n → M) :
    (∑ f ∈ Finset.range n, if h : f < n then g ⟨f, h⟩ else 0) = ∑ f : Fin n, g f := by
  rw [Finset.sum_range]
  exact Finset.sum_congr rfl fun f _ => dif_pos f.isLt

/-- The reconstruction: every one of the 32768 columns. -/
theorem upTo_all (x : (⟨3, ![128, 2, 768]⟩ : Shape).Idx → EReal) (we : (⟨3, ![2, 768, 32768]⟩ : Shape).Idx → EReal)
    (be : (⟨1, ![32768]⟩ : Shape).Idx → EReal) (wd : (⟨3, ![2, 32768, 768]⟩ : Shape).Idx → EReal)
    (bd : (⟨2, ![2, 768]⟩ : Shape).Idx → EReal) (l : Fin 2) (b : Fin 128) (d : Fin 768) :
    upTo x we be wd bd 32768 l b d = (∑ f : Fin 32768, act x we be b f * wd (ix3 l f d)) + bd (ix2 l d) := by
  unfold upTo
  rw [add_comm]
  exact congrArg (· + bd (ix2 l d)) (sum_extend 32768 fun f => act x we be b f * wd (ix3 l f d))

/-- The first block of 1024 columns on top of the bias. -/
theorem upTo_first (x : (⟨3, ![128, 2, 768]⟩ : Shape).Idx → EReal) (we : (⟨3, ![2, 768, 32768]⟩ : Shape).Idx → EReal)
    (be : (⟨1, ![32768]⟩ : Shape).Idx → EReal) (wd : (⟨3, ![2, 32768, 768]⟩ : Shape).Idx → EReal)
    (bd : (⟨2, ![2, 768]⟩ : Shape).Idx → EReal) (l : Fin 2) (b : Fin 128) (d : Fin 768) :
    (∑ f : Fin 1024, part x we be wd l b d (1024 * 0 + f)) + bd (ix2 l d) = upTo x we be wd bd (1024 * (0 + 1)) l b d := by
  unfold upTo
  rw [add_comm, show 1024 * (0 + 1) = 1024 from rfl, Finset.sum_range]
  simp only [Nat.mul_zero, Nat.zero_add]

/-- One more block of 1024 columns. -/
theorem upTo_block (x : (⟨3, ![128, 2, 768]⟩ : Shape).Idx → EReal) (we : (⟨3, ![2, 768, 32768]⟩ : Shape).Idx → EReal)
    (be : (⟨1, ![32768]⟩ : Shape).Idx → EReal) (wd : (⟨3, ![2, 32768, 768]⟩ : Shape).Idx → EReal)
    (bd : (⟨2, ![2, 768]⟩ : Shape).Idx → EReal) (n : ℕ) (l : Fin 2) (b : Fin 128) (d : Fin 768) :
    upTo x we be wd bd (1024 * n) l b d + (∑ f : Fin 1024, part x we be wd l b d (1024 * n + f))
      = upTo x we be wd bd (1024 * (n + 1)) l b d := by
  unfold upTo
  rw [Nat.mul_add, Nat.mul_one, Finset.sum_range_add, add_assoc, Finset.sum_range (n := 1024)]

/-- A sum over `m · n` positions is the double sum over the quotient and the remainder. -/
theorem sum_pairs {M : Type*} [AddCommMonoid M] {m n N : ℕ} (hN : N = m * n) (g : Fin N → M) (u : Fin m → Fin n → Fin N)
    (hu : ∀ i j, (u i j).val = n * i.val + j.val) : ∑ k, g k = ∑ i : Fin m, ∑ j : Fin n, g (u i j) := by
  subst hN
  rw [← finProdFinEquiv.sum_comp, Fintype.sum_prod_type]
  refine Finset.sum_congr rfl fun i _ => Finset.sum_congr rfl fun j _ => congrArg g (Fin.ext ?_)
  rw [hu, finProdFinEquiv_apply_val, Nat.add_comm]

end Cert.Spec

end
-- ==== Proof.Arrays.lean ====
/- The blocks a grid point reads, as elements of the program's arguments. The input and the encoder are staged flattened
   over (layer, hidden): position `768 l + h` of the flat axis is `(l, h)`. Block `t` of the dictionary axis starts at
   column `1024 t`. -/
module

public import proofs.«01_k».proof.Proof.Terms
public import proofs.«01_k».proof.Proof.Spec
public import Idealize.ShloMosaic.Lib.Claim

@[expose] public section

noncomputable section

open Idealize.ShloMosaic Idealize.ShloMosaic.TcCoe Idealize.SL.Sem Idealize.ShloMosaic.ValueIdx
open scoped BigOperators

namespace Cert.KernelIdeal.Arrays

open Cert.KernelIdeal Cert.KernelIdeal.Gen Cert.KernelIdeal.Block Cert.KernelIdeal.Terms

variable (m : (ℓ : Loc nD τ sig) → Buf (Elt Ideal) ℓ) (c : Dev nD)

/-- The input activations, `[128, 2, 768]`. -/
abbrev x : (⟨3, ![128, 2, 768]⟩ : Shape).Idx → EReal := m ((c : Thread nD τ).loc main_arg0)
/-- The encoder weights, `[2, 768, 32768]`. -/
abbrev we : (⟨3, ![2, 768, 32768]⟩ : Shape).Idx → EReal := m ((c : Thread nD τ).loc main_arg1)
/-- The encoder bias, `[32768]`. -/
abbrev be : (⟨1, ![32768]⟩ : Shape).Idx → EReal := m ((c : Thread nD τ).loc main_arg2)
/-- The decoder weights, `[2, 32768, 768]`. -/
abbrev wd : (⟨3, ![2, 32768, 768]⟩ : Shape).Idx → EReal := m ((c : Thread nD τ).loc main_arg3)
/-- The decoder bias, `[2, 768]`. -/
abbrev bd : (⟨2, ![2, 768]⟩ : Shape).Idx → EReal := m ((c : Thread nD τ).loc main_arg4)

/-- Position `768 l + h` of the flattened (layer, hidden) axis. -/
abbrev flat (l : Fin 2) (h : Fin 768) : Fin 1536 := ⟨768 * l.val + h.val, by have := l.isLt; have := h.isLt; omega⟩

/-- Column `1024 t + f` of the dictionary. -/
abbrev col (t : Fin cfg0.N) (f : Fin 1024) : Fin 32768 :=
  ⟨1024 * t.val + f.val, by have h : t.val < 32 := lt_of_lt_of_eq t.isLt N_0; have := f.isLt; omega⟩

/-- The staged input is the argument flattened. -/
theorem entry_x : (V m c main_call0_v0 : Vec Ideal S128x1536 .f32)
    = shapeCast S128x1536 (x m c) shapeCasts_S128x2x768_S128x1536 := by
  entry_read; rfl

/-- The staged encoder is the argument flattened. -/
theorem entry_we : (V m c main_call0_v1 : Vec Ideal S1536x32768 .f32)
    = shapeCast S1536x32768 (we m c) shapeCasts_S2x768x32768_S1536x32768 := by
  entry_read; rfl

/-- The staged encoder bias is the argument as one row. -/
theorem entry_be : (V m c main_call0_v2 : Vec Ideal S1x32768 .f32)
    = shapeCast S1x32768 (be m c) shapeCasts_S32768_S1x32768 := by
  entry_read; rfl

/-- The flattened input at `(b, 768 l + h)` is the input at `(b, l, h)`. -/
theorem staged_x (b : Fin 128) (l : Fin 2) (h : Fin 768) :
    (V m c main_call0_v0 : Vec Ideal S128x1536 .f32) (ix2 b (flat l h)) = x m c (ix3 b l h) := by
  rw [entry_x]
  refine shapeCast_apply (x m c) _ (ix2 b (flat l h)) (ix3 b l h) ?_
  rw [Shape.rowMajor_val_three, Shape.rowMajor_val_two]
  show (b.val * 2 + l.val) * 768 + h.val = b.val * 1536 + (768 * l.val + h.val)
  omega

/-- The flattened encoder at `(768 l + h, f)` is the encoder at `(l, h, f)`. -/
theorem staged_we (l : Fin 2) (h : Fin 768) (f : Fin 32768) :
    (V m c main_call0_v1 : Vec Ideal S1536x32768 .f32) (ix2 (flat l h) f) = we m c (ix3 l h f) := by
  rw [entry_we]
  refine shapeCast_apply (we m c) _ (ix2 (flat l h) f) (ix3 l h f) ?_
  rw [Shape.rowMajor_val_three, Shape.rowMajor_val_two]
  show (l.val * 768 + h.val) * 32768 + f.val = (768 * l.val + h.val) * 32768 + f.val
  omega

/-- The encoder bias row at column `f`. -/
theorem staged_be (f : Fin 32768) :
    (V m c main_call0_v2 : Vec Ideal S1x32768 .f32) (ix2 0 f) = be m c (ix1 f) := by
  rw [entry_be]
  refine (shapeCast_addUnit_apply ![32768] (be m c) _ (ix2 0 f)).trans (congrArg (be m c) ?_)
  funext a
  match a with | ⟨0, _⟩ => rfl

/-- The input's block is at the origin at every point. -/
theorem index_x : ∀ t : Fin cfg0.N, win0_0.index t 0 = 0 ∧ win0_0.index t 1 = 0 := by decide +kernel
/-- The encoder's block moves along the dictionary, one block per point. -/
theorem index_we : ∀ t : Fin cfg0.N, win0_1.index t 0 = 0 ∧ win0_1.index t 1 = t.val := by decide +kernel
/-- The encoder bias's block moves along the dictionary, one block per point. -/
theorem index_be : ∀ t : Fin cfg0.N, win0_2.index t 0 = 0 ∧ win0_2.index t 1 = t.val := by decide +kernel
/-- The decoder's block moves along the dictionary, one block per point. -/
theorem index_wd : ∀ t : Fin cfg0.N, win0_3.index t 0 = 0 ∧ win0_3.index t 1 = t.val ∧ win0_3.index t 2 = 0 := by
  decide +kernel
/-- The decoder bias's block is at the origin at every point. -/
theorem index_bd : ∀ t : Fin cfg0.N, win0_4.index t 0 = 0 ∧ win0_4.index t 1 = 0 := by decide +kernel

/-- The input block is the whole flattened input, at every point. -/
theorem block_x (t : Fin cfg0.N) (b : Fin 128) (l : Fin 2) (h : Fin 768) :
    (iblk m c 0 t : Vec Ideal S128x1536 .f32) (ix2 b (flat l h)) = x m c (ix3 b l h) := by
  rw [← staged_x m c b l h]
  unfold iblk
  rw [View.read_apply]
  show V m c main_call0_v0 _ = V m c main_call0_v0 _
  congr 1
  funext a
  apply Fin.ext
  match a with
  | ⟨0, _⟩ => show win0_0.index t 0 * 128 + 1 * b.val = b.val; rw [(index_x t).1]; omega
  | ⟨1, _⟩ => show win0_0.index t 1 * 1536 + 1 * (flat l h).val = (flat l h).val; rw [(index_x t).2]; omega

/-- The encoder block of point `t` is columns `1024 t …` of the flattened encoder. -/
theorem block_we (t : Fin cfg0.N) (l : Fin 2) (h : Fin 768) (f : Fin 1024) :
    (iblk m c 1 t : Vec Ideal S1536x1024 .f32) (ix2 (flat l h) f) = we m c (ix3 l h (col t f)) := by
  rw [← staged_we m c l h (col t f)]
  unfold iblk
  rw [View.read_apply]
  show V m c main_call0_v1 _ = V m c main_call0_v1 _
  congr 1
  funext a
  apply Fin.ext
  match a with
  | ⟨0, _⟩ => show win0_1.index t 0 * 1536 + 1 * (flat l h).val = (flat l h).val; rw [(index_we t).1]; omega
  | ⟨1, _⟩ => show win0_1.index t 1 * 1024 + 1 * f.val = 1024 * t.val + f.val; rw [(index_we t).2]; omega

/-- The encoder bias block of point `t` is columns `1024 t …` of the bias. -/
theorem block_be (t : Fin cfg0.N) (f : Fin 1024) :
    (iblk m c 2 t : Vec Ideal S1x1024 .f32) (ix2 0 f) = be m c (ix1 (col t f)) := by
  rw [← staged_be m c (col t f)]
  unfold iblk
  rw [View.read_apply]
  show V m c main_call0_v2 _ = V m c main_call0_v2 _
  congr 1
  funext a
  apply Fin.ext
  match a with
  | ⟨0, _⟩ => show win0_2.index t 0 * 1 + 1 * 0 = 0; rw [(index_be t).1]
  | ⟨1, _⟩ => show win0_2.index t 1 * 1024 + 1 * f.val = 1024 * t.val + f.val; rw [(index_be t).2]; omega

/-- The decoder block of point `t` is columns `1024 t …` of both layers. -/
theorem block_wd (t : Fin cfg0.N) (l : Fin 2) (f : Fin 1024) (d : Fin 768) :
    (iblk m c 3 t : Vec Ideal S2x1024x768 .f32) (ix3 l f d) = wd m c (ix3 l (col t f) d) := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 2 + 1 * l.val = l.val; rw [(index_wd t).1]; omega
  | ⟨1, _⟩ => show win0_3.index t 1 * 1024 + 1 * f.val = 1024 * t.val + f.val; rw [(index_wd t).2.1]; omega
  | ⟨2, _⟩ => show win0_3.index t 2 * 768 + 1 * d.val = d.val; rw [(index_wd t).2.2]; omega

/-- The decoder bias block is the whole decoder bias, at every point. -/
theorem block_bd (t : Fin cfg0.N) (l : Fin 2) (d : Fin 768) :
    (iblk m c 4 t : Vec Ideal S2x768 .f32) (ix2 l d) = bd m c (ix2 l d) := by
  unfold iblk
  rw [View.read_apply]
  show V m c main_arg4 _ = m ((c : Thread nD τ).loc main_arg4) _
  rw [V_main_arg4]
  congr 1
  funext a
  apply Fin.ext
  match a with
  | ⟨0, _⟩ => show win0_4.index t 0 * 2 + 1 * l.val = l.val; rw [(index_bd t).1]; omega
  | ⟨1, _⟩ => show win0_4.index t 1 * 768 + 1 * d.val = d.val; rw [(index_bd t).2]; omega

/-- The first plane of the decoder block, at an element. -/
theorem plane0_apply (w : Vec Ideal S2x1024x768 .f32) (f : Fin 1024) (d : Fin 768) :
    plane0 w (ix3 0 f d) = w (ix3 0 f d) := by
  refine congrArg w (funext fun a => Fin.ext ?_)
  match a with
  | ⟨0, _⟩ => rfl
  | ⟨1, _⟩ => show 0 + 1 * f.val = f.val; omega
  | ⟨2, _⟩ => show 0 + 1 * d.val = d.val; omega

/-- The second plane of the decoder block, at an element. -/
theorem plane1_apply (w : Vec Ideal S2x1024x768 .f32) (f : Fin 1024) (d : Fin 768) :
    plane1 w (ix3 0 f d) = w (ix3 1 f d) := by
  refine congrArg w (funext fun a => Fin.ext ?_)
  match a with
  | ⟨0, _⟩ => rfl
  | ⟨1, _⟩ => show 0 + 1 * f.val = f.val; omega
  | ⟨2, _⟩ => show 0 + 1 * d.val = d.val; omega

/-- The first row of the decoder bias, at an element. -/
theorem row0_apply (r : Vec Ideal S2x768 .f32) (d : Fin 768) : row0 r (ix2 0 d) = r (ix2 0 d) := by
  refine congrArg r (funext fun a => Fin.ext ?_)
  match a with
  | ⟨0, _⟩ => rfl
  | ⟨1, _⟩ => show 0 + 1 * d.val = d.val; omega

/-- The second row of the decoder bias, at an element. -/
theorem row1_apply (r : Vec Ideal S2x768 .f32) (d : Fin 768) : row1 r (ix2 0 d) = r (ix2 1 d) := by
  refine congrArg r (funext fun a => Fin.ext ?_)
  match a with
  | ⟨0, _⟩ => rfl
  | ⟨1, _⟩ => show 0 + 1 * d.val = d.val; omega

/-- The features of point `t`'s block are the dictionary's features at columns `1024 t …`. -/
theorem feature_eq (t : Fin cfg0.N) (b : Fin 128) (f : Fin 1024) :
    feature (iblk m c 0 t) (iblk m c 1 t) (iblk m c 2 t) b f = Spec.act (x m c) (we m c) (be m c) b (col t f) := by
  unfold feature Spec.act
  rw [block_be, Spec.sum_pairs (m := 2) (n := 768) rfl _ flat fun _ _ => rfl]
  simp only [block_x, block_we]

/-- A point's contribution to layer 0. -/
theorem point0 (t : Fin cfg0.N) (b : Fin 128) (d : Fin 768) :
    (∑ f : Fin 1024, feature (iblk m c 0 t) (iblk m c 1 t) (iblk m c 2 t) b f * plane0 (iblk m c 3 t) (ix3 0 f d))
      = ∑ f : Fin 1024, Spec.part (x m c) (we m c) (be m c) (wd m c) 0 b d (1024 * t.val + f) := by
  refine Finset.sum_congr rfl fun f _ => ?_
  unfold Spec.part
  rw [dif_pos (col t f).isLt, feature_eq, plane0_apply, block_wd]

/-- A point's contribution to layer 1. -/
theorem point1 (t : Fin cfg0.N) (b : Fin 128) (d : Fin 768) :
    (∑ f : Fin 1024, feature (iblk m c 0 t) (iblk m c 1 t) (iblk m c 2 t) b f * plane1 (iblk m c 3 t) (ix3 0 f d))
      = ∑ f : Fin 1024, Spec.part (x m c) (we m c) (be m c) (wd m c) 1 b d (1024 * t.val + f) := by
  refine Finset.sum_congr rfl fun f _ => ?_
  unfold Spec.part
  rw [dif_pos (col t f).isLt, feature_eq, plane1_apply, block_wd]

end Cert.KernelIdeal.Arrays

end
-- ==== Proof.Fold.lean ====
/- What the two output arrays hold. After point `n` layer `l`'s block is the reconstruction from the first
   `1024 (n + 1)` dictionary columns, by induction on the point; the one write-back, after the last point, stores the
   whole array, so each output array ends at the reconstruction of its layer. -/
module

public import proofs.«01_k».proof.Proof.Arrays

@[expose] public section

noncomputable section

open Idealize.ShloMosaic Idealize.ShloMosaic.TcCoe Idealize.SL.Sem Idealize.ShloMosaic.ValueIdx
open Idealize.ShloMosaic.Pipeline (Dat)
open scoped BigOperators

namespace Cert.KernelIdeal.Fold

open Cert.KernelIdeal Cert.KernelIdeal.Gen Cert.KernelIdeal.Block Cert.KernelIdeal.Terms Cert.KernelIdeal.Arrays

variable (m : (ℓ : Loc nD τ sig) → Buf (Elt Ideal) ℓ) (c : Dev nD)

/-- The reconstruction of layer `l` from the first `n` columns of the program's arguments. -/
abbrev upTo (n : ℕ) (l : Fin 2) (b : Fin 128) (d : Fin 768) : EReal :=
  Spec.upTo (x m c) (we m c) (be m c) (wd m c) (bd m c) n l b d

/-- The first point leaves the bias plus its own columns, in both layers. -/
theorem start (t : Fin cfg0.N) (h0 : t.val % 32 = 0) (h1 : ¬1 ≤ t.val) (b : Fin 128) (d : Fin 768) :
    (outsAt0 m c t.val t.isLt).1 (ix2 b d) = upTo m c (1024 * (t.val + 1)) 0 b d
      ∧ (outsAt0 m c t.val t.isLt).2 (ix2 b d) = upTo m c (1024 * (t.val + 1)) 1 b d := by
  have ht : t.val = 0 := by omega
  rw [outsAt0_A m c t h0 h1]
  dsimp only
  rw [first0, first1]
  refine ⟨(first_apply _ _ _ _ _ b d).trans ?_, (first_apply _ _ _ (plane1 _) (row1 _) b d).trans ?_⟩
  · rw [point0 m c t b d, row0_apply, block_bd, ht]
    exact Spec.upTo_first _ _ _ _ _ 0 b d
  · rw [point1 m c t b d, row1_apply, block_bd, ht]
    exact Spec.upTo_first _ _ _ _ _ 1 b d

/-- A later point adds its own columns, in both layers. -/
theorem step (t : Fin cfg0.N) (h0 : ¬t.val % 32 = 0) (h1 : 1 ≤ t.val) (b : Fin 128) (d : Fin 768)
    (hp : (outsAt0 m c (t.val - 1) (Nat.lt_of_le_of_lt (Nat.sub_le _ _) t.isLt)).1 (ix2 b d) = upTo m c (1024 * t.val) 0 b d
      ∧ (outsAt0 m c (t.val - 1) (Nat.lt_of_le_of_lt (Nat.sub_le _ _) t.isLt)).2 (ix2 b d) = upTo m c (1024 * t.val) 1 b d) :
    (outsAt0 m c t.val t.isLt).1 (ix2 b d) = upTo m c (1024 * (t.val + 1)) 0 b d
      ∧ (outsAt0 m c t.val t.isLt).2 (ix2 b d) = upTo m c (1024 * (t.val + 1)) 1 b d := by
  rw [outsAt0_B m c t h0 h1]
  dsimp only
  rw [later0, later1]
  refine ⟨(later_apply _ _ _ _ _ b d).trans ?_, (later_apply _ _ _ (plane1 _) _ b d).trans ?_⟩
  · rw [point0 m c t b d, hp.1]
    exact Spec.upTo_block _ _ _ _ _ t.val 0 b d
  · rw [point1 m c t b d, hp.2]
    exact Spec.upTo_block _ _ _ _ _ t.val 1 b d

/-- After point `n` each layer's block is the reconstruction from the first `1024 (n + 1)` columns. -/
theorem after_point (b : Fin 128) (d : Fin 768) : ∀ (n : ℕ) (hn : n < cfg0.N),
    (outsAt0 m c n hn).1 (ix2 b d) = upTo m c (1024 * (n + 1)) 0 b d
      ∧ (outsAt0 m c n hn).2 (ix2 b d) = upTo m c (1024 * (n + 1)) 1 b d
  | 0, hn => start m c ⟨0, hn⟩ (Nat.zero_mod _) (Nat.not_succ_le_zero 0) b d
  | n + 1, hn => by
    have hN : n + 1 < 32 := lt_of_lt_of_eq hn N_0
    exact step m c ⟨n + 1, hn⟩ (by dsimp only; omega) (Nat.succ_le_succ (Nat.zero_le n)) b d
      (after_point b d n (Nat.lt_of_succ_lt hn))

/-- Layer `l`'s reconstruction as an array `[128, 768]`. -/
def layer (l : Fin 2) : Vec Ideal S128x768 .f32 := fun i => upTo m c 32768 l (i 0) (i 1)

/-- The last point. -/
abbrev last : Fin cfg0.N := ⟨31, by rw [show cfg0.N = 32 from N_0]; decide⟩

/-- After the last point the two blocks are the two layers' reconstructions. -/
theorem last_eq : outsAt0 m c 31 last.isLt = (layer m c 0, layer m c 1) := by
  refine Prod.ext (funext fun i => ?_) (funext fun i => ?_)
  · rw [eq_ix2 i]; exact (after_point m c (i 0) (i 1) 31 last.isLt).1
  · rw [eq_ix2 i]; exact (after_point m c (i 0) (i 1) 31 last.isLt).2

/-- The first output's one block is at the origin. -/
theorem origin5 (t : Fin cfg0.N) : (fun a => win0_5.index t a * main_call0_v3_0.ty.shape.size a) = fun _ => 0 :=
  funext fun a => by fin_cases a <;> (revert t; decide +kernel)

/-- The second output's one block is at the origin. -/
theorem origin6 (t : Fin cfg0.N) : (fun a => win0_6.index t a * main_call0_v3_1.ty.shape.size a) = fun _ => 0 :=
  funext fun a => by fin_cases a <;> (revert t; decide +kernel)

/-- A point that writes back is the last one. -/
theorem eq_last (t : Fin cfg0.N) (h : t.val % 32 = 31) : t = last := by
  have hN : t.val < 32 := lt_of_lt_of_eq t.isLt N_0
  exact Fin.ext (by show t.val = 31; omega)

/-- What is written back to the first output array is layer 0's reconstruction. -/
theorem flushed5 (t : Fin cfg0.N) (hf : (cfg0.win 5).flush t = true) :
    (dats m 0 c).flushed 5 t = ((cfg0.win 5).blk t).view.read (Elt Ideal) (layer m c 0) := by
  obtain rfl := eq_last t ((flush0_5 t).mp hf)
  show (cfg0.win 5).cut (grid0.coords last) ((dats m 0 c).after 5 last) = _
  rw [after0_5, last_eq]
  exact (Memref.read_access_unit_zero (Elt Ideal) main_call0_v3_0 (origin5 last)
    (fun a => by rw [congrFun (origin5 last) a]; simp) (layer m c 0)).symm

/-- What is written back to the second output array is layer 1's reconstruction. -/
theorem flushed6 (t : Fin cfg0.N) (hf : (cfg0.win 6).flush t = true) :
    (dats m 0 c).flushed 6 t = ((cfg0.win 6).blk t).view.read (Elt Ideal) (layer m c 1) := by
  obtain rfl := eq_last t ((flush0_6 t).mp hf)
  show (cfg0.win 6).cut (grid0.coords last) ((dats m 0 c).after 6 last) = _
  rw [after0_6, last_eq]
  exact (Memref.read_access_unit_zero (Elt Ideal) main_call0_v3_1 (origin6 last)
    (fun a => by rw [congrFun (origin6 last) a]; simp) (layer m c 1)).symm

/-- Every element of the first output array is in the last point's block. -/
theorem cover5 (i : S128x768.Idx) : i ∈ ((cfg0.win 5).blk last).view.set := by
  show i ∈ ((View.whole main_call0_v3_0).slice (win0_5.rect last)).set
  rw [View.set_slice_whole]
  exact View.mem_set_unit_zero (S := S128x768) (origin5 last) _ i

/-- Every element of the second output array is in the last point's block. -/
theorem cover6 (i : S128x768.Idx) : i ∈ ((cfg0.win 6).blk last).view.set := by
  show i ∈ ((View.whole main_call0_v3_1).slice (win0_6.rect last)).set
  rw [View.set_slice_whole]
  exact View.mem_set_unit_zero (S := S128x768) (origin6 last) _ i

/-- The first output array ends at layer 0's reconstruction. -/
theorem final5 : (dats m 0 c).arrAt 5 cfg0.N = layer m c 0 :=
  (dats m 0 c).arrAt_eq_of_cover 5 (layer m c 0) (flushed5 m c) fun i => ⟨last, (flush0_5 last).mpr rfl, cover5 i⟩

/-- The second output array ends at layer 1's reconstruction. -/
theorem final6 : (dats m 0 c).arrAt 6 cfg0.N = layer m c 1 :=
  (dats m 0 c).arrAt_eq_of_cover 6 (layer m c 1) (flushed6 m c) fun i => ⟨last, (flush0_6 last).mpr rfl, cover6 i⟩

end Cert.KernelIdeal.Fold

end
-- ==== Proof.Tail.lean ====
/- The program's result. After the grid the two output arrays are stacked along a new middle axis, so the result at
   `(b, l, d)` is layer `l`'s reconstruction at `(b, d)`. -/
module

public import proofs.«01_k».proof.Proof.Fold

@[expose] public section

noncomputable section

open Idealize.ShloMosaic Idealize.ShloMosaic.TcCoe Idealize.SL.Sem Idealize.ShloMosaic.ValueIdx

namespace Cert.KernelIdeal.Tail

open Cert.KernelIdeal Cert.KernelIdeal.Gen Cert.KernelIdeal.Fold

variable (m : (ℓ : Loc nD τ sig) → Buf (Elt Ideal) ℓ) (c : Dev nD) (ρ : Dev nD → PrngReg)

/-- A `[128, 768]` array with a unit axis put in the middle. -/
abbrev lift (v : Vec Ideal S128x768 .f32) : Vec Ideal S128x1x768 .f32 :=
  broadcastInDim S128x1x768 ![0, 2] bcast_S128x768_S128x1x768_0_2 v

/-- Two arrays stacked along a new middle axis. -/
abbrev stack (v w : Vec Ideal S128x768 .f32) : Vec Ideal S128x2x768 .f32 :=
  concatenate S128x2x768 1 [⟨S128x1x768, lift v⟩, ⟨S128x1x768, lift w⟩] concatenates_S128x1x768_S128x1x768_S128x2x768_d1

/-- The lifted array reads its operand at the outer coordinates. -/
theorem lift_apply (v : Vec Ideal S128x768 .f32) (b : Fin 128) (d : Fin 768) : lift v (ix3 b 0 d) = v (ix2 b d) :=
  broadcastInDim_apply _ bcast_S128x768_S128x1x768_0_2 v (ix3 b 0 d) (ix2 b d) fun a => match a with
    | ⟨0, _⟩ => rfl
    | ⟨1, _⟩ => rfl

/-- The first slot of the stack is the first array. -/
theorem stack_apply0 (v w : Vec Ideal S128x768 .f32) (b : Fin 128) (d : Fin 768) :
    stack v w (ix3 b 0 d) = v (ix2 b d) :=
  (concatenate_pair_apply_left (1 : Fin S128x2x768.rank) (lift v) (lift w) _ (ix3 b 0 d) rfl (ix3 b 0 d)
    (fun a => match a with | ⟨0, _⟩ => rfl | ⟨1, _⟩ => rfl | ⟨2, _⟩ => rfl)).trans (lift_apply v b d)

/-- The second slot of the stack is the second array. -/
theorem stack_apply1 (v w : Vec Ideal S128x768 .f32) (b : Fin 128) (d : Fin 768) :
    stack v w (ix3 b 1 d) = w (ix2 b d) :=
  (concatenate_pair_apply_right (1 : Fin S128x2x768.rank) (lift v) (lift w) _ (ix3 b 1 d) rfl rfl (ix3 b 0 d)
    (fun a ha => match a, ha with
      | ⟨0, _⟩, _ => rfl
      | ⟨1, _⟩, ha => absurd rfl ha
      | ⟨2, _⟩, _ => rfl) rfl).trans (lift_apply w b d)

/-- The result: the two layers' reconstructions stacked. -/
abbrev result : Vec Ideal S128x2x768 .f32 := stack (layer m c 0) (layer m c 1)

/-- The result at `(b, l, d)` is layer `l`'s reconstruction at `(b, d)`. -/
theorem result_apply (b : Fin 128) (d : Fin 768) : ∀ l : Fin 2, result m c (ix3 b l d) = upTo m c 32768 l b d :=
  Fin.forall_fin_two.mpr ⟨stack_apply0 (layer m c 0) (layer m c 1) b d, stack_apply1 (layer m c 0) (layer m c 1) b d⟩

/-- The host's stacking after the grid leaves the result in the program's result buffer. -/
theorem result_eq : (Pipeline.afterTail₀ cfgs (dats m) 0 (V0 m) [hostOps1] c main_v0 : Vec Ideal S128x2x768 .f32)
    = result m c := by
  have e5 : Pipeline.withArrays (cfgs 0).spec c (V0 m c) (fun w => (dats m 0 c).arrAt w (cfgs 0).N)
      (Proc.devRef .tc main_call0_v3_0) = layer m c 0 :=
    (Pipeline.withArrays_arr (cfgs 0).spec launch0.win.arr_inj c (V0 m c) _ 5).trans (final5 m c)
  have e6 : Pipeline.withArrays (cfgs 0).spec c (V0 m c) (fun w => (dats m 0 c).arrAt w (cfgs 0).N)
      (Proc.devRef .tc main_call0_v3_1) = layer m c 1 :=
    (Pipeline.withArrays_arr (cfgs 0).spec launch0.win.arr_inj c (V0 m c) _ 6).trans (final6 m c)
  unfold Pipeline.afterTail₀
  simp only [hostOps1, List.flatten_cons, List.flatten_nil, List.append_nil, StableHlo.TRef.binary, StableHlo.TRef.unary,
    StableHlo.TRef.toBuf, StableHlo.TRef.ofBuf, cast_eq]
  after_results
  rw [e5, e6]

/-- The whole run: the result buffer holds the stacked reconstructions and the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Cert.KernelIdeal.Tail

end
-- ==== Proof.Equation.lean ====
/- The reference's result is the stacked reconstruction: read at `(b, l, d)` it is
   `Σ_f max (Σ_l Σ_h We(l, h, f) · x(b, l, h) + be(f)) 0 · Wd(l, f, d) + bd(l, d)`, the kernel's up to the order of the
   encoder's factors. -/
module

public import proofs.«01_k».proof.Proof.Tail
public import proofs.«01_k».proof.Proof.Gen.ReferenceIdeal.Read

@[expose] public section

noncomputable section

open Idealize.ShloMosaic Idealize.ShloMosaic.TcCoe Idealize.SL.Sem Idealize.ShloMosaic.ValueIdx
open scoped BigOperators

namespace Cert.Equation

open Cert.ReferenceIdeal.Read

variable (x : (⟨3, ![128, 2, 768]⟩ : Shape).Idx → EReal) (we : (⟨3, ![2, 768, 32768]⟩ : Shape).Idx → EReal)
  (be : (⟨1, ![32768]⟩ : Shape).Idx → EReal) (wd : (⟨3, ![2, 32768, 768]⟩ : Shape).Idx → EReal)
  (bd : (⟨2, ![2, 768]⟩ : Shape).Idx → EReal)

/-- The zero of the reference's sum and of its relu. -/
theorem zero_word : (FloatOps.ofBits .f32 0x00000000#32 : Ideal .f32) = (0 : EReal) := KernelIdeal.Terms.zero_word

/-- The reference's encoder product at `(l, f, b)`. -/
theorem encode_apply (i : Cert.ReferenceIdeal.S2x32768x128.Idx) :
    val_main_v0 (F := Ideal) x we i = ∑ h : Fin 768, x (ix3 (i 2) (i 0) h) * we (ix3 (i 0) h (i 1)) := by
  rw [val_main_v0_apply]
  refine Finset.sum_congr rfl fun h _ => ?_
  rw [mul_comm, show lidx_main_v0 i h = ix3 (i 0) h (i 1) from eq_ix3 _,
    show ridx_main_v0 i h = ix3 (i 2) (i 0) h from eq_ix3 _]
  rfl

/-- The reference's features. -/
theorem feature_apply (b : Fin 128) (f : Fin 32768) :
    val_main_v6 (F := Ideal) x we be (ix2 b f) = Spec.act x we be b f := by
  rw [val_main_v6_apply, val_main_v5_apply, val_main_v2_apply, val_main_v4_apply, val_main_v3_apply,
    val_main_call0_v0_apply, val_main_call0_cst_apply, val_main_cst_apply, zero_word]
  simp only [val_main_v1_apply, encode_apply]
  show max ((0 + ∑ l : Fin 2, ∑ h : Fin 768, x (ix3 b l h) * we (ix3 l h f)) + be _) 0 = _
  unfold Spec.act
  rw [zero_add, eq_ix1 (idx_main_v3 _)]
  rfl

/-- The reference's result at `(b, l, d)` is the reconstruction from all the columns. -/
theorem reference_apply (b : Fin 128) (l : Fin 2) (d : Fin 768) :
    val_main_v10 (F := Ideal) x we be wd bd (ix3 b l d) = Spec.upTo x we be wd bd 32768 l b d := by
  rw [val_main_v10_apply, val_main_v7_apply, val_main_v9_apply, val_main_v8_apply, Spec.upTo_all]
  have hb : idx_main_v8 (idx_main_v9 (ix3 b l d)) = ix2 l d := funext fun a => match a with
    | ⟨0, _⟩ => rfl
    | ⟨1, _⟩ => rfl
  have hl (f : Fin 32768) : lidx_main_v7 (ix3 b l d) f = ix2 b f := funext fun a => match a with
    | ⟨0, _⟩ => rfl
    | ⟨1, _⟩ => rfl
  have hr (f : Fin 32768) : ridx_main_v7 (ix3 b l d) f = ix3 l f d := funext fun a => match a with
    | ⟨0, _⟩ => rfl
    | ⟨1, _⟩ => rfl
    | ⟨2, _⟩ => rfl
  simp only [hb, hl, hr, feature_apply]
  rfl

/-- The reference's result on the kernel's arguments is the kernel's result. -/
theorem equal (m : (ℓ : Loc KernelIdeal.nD KernelIdeal.τ KernelIdeal.sig) → Buf (Elt Ideal) ℓ) (c : Dev KernelIdeal.nD) :
    (val_main_v10 (F := Ideal) (KernelIdeal.Arrays.x m c) (KernelIdeal.Arrays.we m c) (KernelIdeal.Arrays.be m c)
      (KernelIdeal.Arrays.wd m c) (KernelIdeal.Arrays.bd m c) : Vec Ideal KernelIdeal.S128x2x768 .f32)
      = KernelIdeal.Tail.result m c := by
  funext i
  obtain ⟨b, l, d, rfl⟩ : ∃ b l d, i = ix3 b l d := ⟨_, _, _, eq_ix3 i⟩
  exact (reference_apply _ _ _ _ _ b l d).trans (KernelIdeal.Tail.result_apply m c b d l).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Equation
public import Idealize.ShloMosaic.Lib.Quiescent

@[expose] public section

noncomputable section

namespace Cert.Proof

open Idealize.ShloMosaic Idealize.ShloMosaic.TcCoe Idealize.SL.Sem

/-- The reference's frame: its arguments are unchanged and, having no semaphores, it ends with every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Run on the same arguments, the kernel and the reference leave the same result. -/
theorem algebraic : Cert.algebraic_KernelIdeal_ReferenceIdeal (hKernelIdeal := Cert.KernelIdeal.Gen.facts)
    (hReferenceIdeal := Cert.ReferenceIdeal.Gen.facts) := by
  intro m g m' g' _ harg
  refine ⟨fun c => Cert.KernelIdeal.Tail.result m c, Cert.KernelIdeal.Tail.run m g, ?_⟩
  refine (θ_run Cert.ReferenceIdeal.defs _ _).mono (fun r h c => ⟨?_, (h c).2⟩)
    (Cert.ReferenceIdeal.Value.run (F := Ideal) m' g')
  obtain ⟨h0, h1, h2, h3, h4⟩ := harg c
  refine (h c).1.trans ?_
  rw [h0, h1, h2, h3, h4]
  exact (Cert.ReferenceIdeal.Read.val_main_v10_eq _ _ _ _ _).trans (Cert.Equation.equal m c)

/-- All the claims: the three frames, that the ideal kernel is the kernel, and that it computes the reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    algebraic⟩

end Cert.Proof

end
